-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32640 : Shape := ⟨2, ![1024, 32640]⟩
abbrev S256x256 : Shape := ⟨2, ![256, 256]⟩
abbrev S_ : Shape := ⟨0, ![]⟩
abbrev S1024x32896 : Shape := ⟨2, ![1024, 32896]⟩
abbrev S1024x256x256 : Shape := ⟨3, ![1024, 256, 256]⟩
abbrev S8x32896 : Shape := ⟨2, ![8, 32896]⟩
abbrev S8x256x256 : Shape := ⟨3, ![8, 256, 256]⟩
abbrev S8x1x256 : Shape := ⟨3, ![8, 1, 256]⟩
abbrev S8x256 : Shape := ⟨2, ![8, 256]⟩
abbrev S8x255x256 : Shape := ⟨3, ![8, 255, 256]⟩
abbrev S1x256x256 : Shape := ⟨3, ![1, 256, 256]⟩
abbrev S8x2x256 : Shape := ⟨3, ![8, 2, 256]⟩
abbrev S8x254x256 : Shape := ⟨3, ![8, 254, 256]⟩
abbrev S8x4x256 : Shape := ⟨3, ![8, 4, 256]⟩
abbrev S8x252x256 : Shape := ⟨3, ![8, 252, 256]⟩
abbrev S8x8x256 : Shape := ⟨3, ![8, 8, 256]⟩
abbrev S8x248x256 : Shape := ⟨3, ![8, 248, 256]⟩
abbrev S8x16x256 : Shape := ⟨3, ![8, 16, 256]⟩
abbrev S8x240x256 : Shape := ⟨3, ![8, 240, 256]⟩
abbrev S8x32x256 : Shape := ⟨3, ![8, 32, 256]⟩
abbrev S8x224x256 : Shape := ⟨3, ![8, 224, 256]⟩
abbrev S8x64x256 : Shape := ⟨3, ![8, 64, 256]⟩
abbrev S8x192x256 : Shape := ⟨3, ![8, 192, 256]⟩
abbrev S8x128x256 : Shape := ⟨3, ![8, 128, 256]⟩

abbrev nBuf : Space → Nat
  | .hbm => 6
  | .vmem => 5
  | .smem => 0
  | _ => 0

abbrev bufTy : (tb : Table) → Fin (tcTables nBuf tb) → BufTy
  | .hbm, ⟨0, _⟩ => ⟨S1024x32640, .f32⟩
  | .hbm, ⟨1, _⟩ => ⟨S256x256, .f32⟩
  | .hbm, ⟨2, _⟩ => ⟨S_, .i32⟩
  | .hbm, ⟨3, _⟩ => ⟨S_, .f32⟩
  | .hbm, ⟨4, _⟩ => ⟨S1024x32896, .f32⟩
  | .hbm, ⟨5, _⟩ => ⟨S1024x256x256, .f32⟩
  | .local _ .vmem, ⟨0, _⟩ => ⟨S8x32896, .f32⟩
  | .local _ .vmem, ⟨1, _⟩ => ⟨S8x32896, .f32⟩
  | .local _ .vmem, ⟨2, _⟩ => ⟨S256x256, .f32⟩
  | .local _ .vmem, ⟨3, _⟩ => ⟨S8x256x256, .f32⟩
  | .local _ .vmem, ⟨4, _⟩ => ⟨S8x256x256, .f32⟩
  | _, _ => ⟨S1024x32640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x32640 : Shape := ⟨2, ![1024, 32640]⟩
abbrev S256x256 : Shape := ⟨2, ![256, 256]⟩
abbrev S32640 : Shape := ⟨1, ![32640]⟩
abbrev S_ : Shape := ⟨0, ![]⟩
abbrev S1024x256x256 : Shape := ⟨3, ![1024, 256, 256]⟩
abbrev S32640x1 : Shape := ⟨2, ![32640, 1]⟩
abbrev S32640x2 : Shape := ⟨2, ![32640, 2]⟩
abbrev S1x256x256 : Shape := ⟨3, ![1, 256, 256]⟩

abbrev nBuf : Space → Nat
  | .hbm => 27
  | .vmem => 0
  | .smem => 0
  | _ => 0

abbrev bufTy : (tb : Table) → Fin (tcTables nBuf tb) → BufTy
  | .hbm, ⟨0, _⟩ => ⟨S1024x32640, .f32⟩
  | .hbm, ⟨1, _⟩ => ⟨S256x256, .f32⟩
  | .hbm, ⟨2, _⟩ => ⟨S32640, .i32⟩
  | .hbm, ⟨3, _⟩ => ⟨S32640, .i32⟩
  | .hbm, ⟨4, _⟩ => ⟨S_, .f32⟩
  | .hbm, ⟨5, _⟩ => ⟨S1024x256x256, .f32⟩
  | .hbm, ⟨6, _⟩ => ⟨S_, .i32⟩
  | .hbm, ⟨7, _⟩ => ⟨S32640, .i32⟩
  | .hbm, ⟨8, _⟩ => ⟨S32640, .i1⟩
  | .hbm, ⟨9, _⟩ => ⟨S_, .i32⟩
  | .hbm, ⟨10, _⟩ => ⟨S32640, .i32⟩
  | .hbm, ⟨11, _⟩ => ⟨S32640, .i32⟩
  | .hbm, ⟨12, _⟩ => ⟨S32640, .i32⟩
  | .hbm, ⟨13, _⟩ => ⟨S_, .i32⟩
  | .hbm, ⟨14, _⟩ => ⟨S32640, .i32⟩
  | .hbm, ⟨15, _⟩ => ⟨S32640, .i1⟩
  | .hbm, ⟨16, _⟩ => ⟨S_, .i32⟩
  | .hbm, ⟨17, _⟩ => ⟨S32640, .i32⟩
  | .hbm, ⟨18, _⟩ => ⟨S32640, .i32⟩
  | .hbm, ⟨19, _⟩ => ⟨S32640, .i32⟩
  | .hbm, ⟨20, _⟩ => ⟨S32640x1, .i32⟩
  | .hbm, ⟨21, _⟩ => ⟨S32640x1, .i32⟩
  | .hbm, ⟨22, _⟩ => ⟨S32640x2, .i32⟩
  | .hbm, ⟨23, _⟩ => ⟨S1024x256x256, .f32⟩
  | .hbm, ⟨24, _⟩ => ⟨S1x256x256, .f32⟩
  | .hbm, ⟨25, _⟩ => ⟨S1024x256x256, .f32⟩
  | .hbm, ⟨26, _⟩ => ⟨S1024x256x256, .f32⟩
  | _, _ => ⟨S1024x32640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_cst : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_3 : Ref sig .tc := ⟨.hbm, 13, rfl⟩
abbrev main_v6 : Ref sig .tc := ⟨.hbm, 14, rfl⟩
abbrev main_v7 : Ref sig .tc := ⟨.hbm, 15, rfl⟩
abbrev main_c_4 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.Diag.lean ====
/-
  Where the strictly lower triangle of a 256 × 256 matrix lies in the flat vector: its entries are stored diagonal by
  diagonal, the diagonal `d` (row minus column, 1 to 255) at positions `off d` to `off d + 255 - d`, by column.
-/
module

@[expose] public section

namespace Cert.Proof

/-- The position at which the diagonal `d` starts: the lengths 255, 254, … of the diagonals before it added up. -/
def off (d : Nat) : Nat := (d - 1) * 256 - d * (d - 1) / 2

/-- The diagonal `d` holds `256 - d` entries, and the next diagonal starts after them. -/
theorem off_succ : ∀ d < 256, 0 < d → off (d + 1) = off d + (256 - d) := by decide +kernel

/-- A later diagonal starts later, or at the same place. -/
theorem off_mono (d : Nat) : ∀ n, d + n ≤ 256 → off d ≤ off (d + n)
  | 0, _ => Nat.le_refl _
  | n + 1, h => by
    have h1 := off_mono d n (by omega)
    rcases Nat.eq_zero_or_pos (d + n) with e | e
    · have : d = 0 := by omega
      have : n = 0 := by omega
      subst d n
      decide
    · have h2 := off_succ (d + n) (by omega) e
      rw [← Nat.add_assoc]
      omega

/-- A position lies on one diagonal only. -/
theorem diag_unique (d e t : Nat) (hd : d < 256) (he : e < 256) (h1 : off d ≤ t) (h2 : t < off (d + 1)) (h3 : off e ≤ t)
    (h4 : t < off (e + 1)) : d = e := by
  rcases Nat.lt_trichotomy d e with h | h | h
  · have := off_mono (d + 1) (e - (d + 1)) (by omega)
    rw [Nat.add_sub_cancel' h] at this
    omega
  · exact h
  · have := off_mono (e + 1) (d - (e + 1)) (by omega)
    rw [Nat.add_sub_cancel' h] at this
    omega

/-- A position before the start of the diagonal `n + 1` lies on one of the diagonals 1 to `n`. -/
theorem exists_diag (t : Nat) : ∀ n < 256, t < off (n + 1) → ∃ d c, 0 < d ∧ d ≤ n ∧ c + d < 256 ∧ t = off d + c
  | 0, _, h => absurd h (by simp [off])
  | n + 1, hn, h => by
    by_cases hlt : t < off (n + 1)
    · obtain ⟨d, c, h0, h1, h2, h3⟩ := exists_diag t n (by omega) hlt
      exact ⟨d, c, h0, by omega, h2, h3⟩
    · have := off_succ (n + 1) hn (by omega)
      exact ⟨n + 1, t - off (n + 1), by omega, by omega, by omega, by omega⟩

/-- Every position of the flat vector is the position of an entry of the triangle. -/
theorem exists_entry (t : Nat) (h : t < 32640) : ∃ r c, c < r ∧ r < 256 ∧ t = off (r - c) + c := by
  obtain ⟨d, c, h0, _, h2, h3⟩ := exists_diag t 255 (by omega) (by simpa [off] using h)
  exact ⟨c + d, c, by omega, h2, by rw [Nat.add_sub_cancel_left]; exact h3⟩

/-- Every diagonal ends inside the flat vector. -/
theorem off_end : ∀ d < 256, 0 < d → off d + (256 - d) ≤ 32640 := by decide +kernel

/-- An entry's position is inside the flat vector. -/
theorem pos_lt (r c : Nat) (h : c < r) (hr : r < 256) : off (r - c) + c < 32640 := by
  have := off_end (r - c) (by omega) (by omega)
  omega

/-- A row of 256 elements read from the start of a diagonal ends inside the vector lengthened by 256 elements. -/
theorem off_row : ∀ d < 256, off d + 256 ≤ 32896 := by decide +kernel

end Cert.Proof
-- ==== Proof.Stage.lean ====
/-
  One stage of the shift: the rows of an 8 × 256 × 256 block turned by `s` places (the last `s` rows brought to the
  front), and this taken at the lanes whose number has the bit `n` set. Eight stages, with `s = 2 ^ n`, turn the rows of
  lane `l` by `l` places.
-/
module

public import proofs.«01_k».proof.Proof.Gen.KernelIdeal
public import Idealize.ShloMosaic.Lib.PointwiseCore

@[expose] public section

noncomputable section

namespace Cert.Proof

open Idealize.ShloMosaic Cert.KernelIdeal Cert.KernelIdeal.Gen

/-- The shape of `s` rows of a block. -/
abbrev rows (s : Nat) : Shape := ⟨3, ![8, s, 256]⟩

variable {α : Type}

/-- The block with its last rows (the first `d` left out) brought to the front. -/
def turn (s d : Nat) (h1 : S8x256x256.Slices ![0, d, 0] (rows s)) (h2 : S8x256x256.Slices ![0, 0, 0] (rows d))
    (h3 : Shape.Concatenates [rows s, rows d] S8x256x256 1) (p : S8x256x256.Idx → α) : S8x256x256.Idx → α :=
  concatenate S8x256x256 1 [⟨rows s, extractStridedSlice (rows s) ![0, d, 0] p h1⟩,
    ⟨rows d, extractStridedSlice (rows d) ![0, 0, 0] p h2⟩] h3

/-- Row `r` of the turned block is the row `s` places before it, counted round. -/
theorem turn_apply (s d : Nat) (hsd : s + d = 256) (h1 : S8x256x256.Slices ![0, d, 0] (rows s))
    (h2 : S8x256x256.Slices ![0, 0, 0] (rows d)) (h3 : Shape.Concatenates [rows s, rows d] S8x256x256 1)
    (p : S8x256x256.Idx → α) (b : Fin 8) (r l : Fin 256) :
    turn s d h1 h2 h3 p (ix3 b r l) = p (ix3 b ⟨(r.val + d) % 256, Nat.mod_lt _ (by decide)⟩ l) := by
  have hr := r.isLt
  unfold turn
  rw [concatenate_pair_apply]
  split
  · rename_i h
    have hlt : r.val < s := h
    have e : (r.val + d) % 256 = d + r.val := by omega
    unfold extractStridedSlice
    congr 1
    funext a
    apply Fin.ext
    fin_cases a
    · simp [Shape.Idx.norm_def]
    · simp [Shape.Idx.norm_def, e]
    · simp [Shape.Idx.norm_def]
  · rename_i h
    have hlt : ¬ r.val < s := h
    have e : (r.val + d) % 256 = r.val - s := by omega
    unfold extractStridedSlice
    congr 1
    funext a
    apply Fin.ext
    fin_cases a
    · simp [Shape.Idx.norm_def]
    · simp [Shape.Idx.norm_def, e]
    · simp [Shape.Idx.norm_def]

/-- The number of its lane, at every place of a 256 × 256 matrix. -/
def lane : IVec S256x256 32 := iota .tc S256x256 32 [1] facts.toFacts₀.iota_S256x256_d1_w32

/-- At every place of a block: whether the bit `w` of the lane's number is set. -/
def bitMask (w : BitVec 32) : IVec S8x256x256 1 :=
  broadcastTo S8x256x256 (shapeCast S1x256x256 (shapeCast S1x256x256
    (cmpi .eq (andi (shrsi lane (broadcast S256x256 w)) (broadcast S256x256 1#32)) (broadcast S256x256 1#32))
    facts.toFacts₀.shapeCasts_S256x256_S1x256x256) facts.toFacts₀.shapeCasts_S1x256x256_S1x256x256)
    facts.toFacts₀.broadcasts_S1x256x256_S8x256x256

/-- The bit `n` of a lane's number, as the mask computes it, is the binary digit. -/
theorem bit_digit : ∀ n < 8, ∀ l < 256,
    (IntOp.cmpi .eq (IntOp.andi (IntOp.shrsi .vector (BitVec.ofNat 32 l) (BitVec.ofNat 32 n)) 1#32) 1#32 = 1#1) ↔ l / 2 ^ n % 2 = 1 := by
  decide +kernel

/-- The mask at a place, by the binary digit. -/
theorem bitMask_apply (n : Nat) (hn : n < 8) (b : Fin 8) (r l : Fin 256) :
    bitMask (BitVec.ofNat 32 n) (ix3 b r l) = 1#1 ↔ l.val / 2 ^ n % 2 = 1 := by
  rw [← bit_digit n hn l.val l.isLt]
  have : bitMask (BitVec.ofNat 32 n) (ix3 b r l)
      = IntOp.cmpi .eq (IntOp.andi (IntOp.shrsi .vector (BitVec.ofNat 32 l.val) (BitVec.ofNat 32 n)) 1#32) 1#32 := by
    pointwise [bitMask, lane]
  rw [this]

/-- One stage: the block turned where the bit is set, the block itself elsewhere. -/
def stage (w : BitVec 32) (s d : Nat) (h1 : S8x256x256.Slices ![0, d, 0] (rows s)) (h2 : S8x256x256.Slices ![0, 0, 0] (rows d))
    (h3 : Shape.Concatenates [rows s, rows d] S8x256x256 1) (p : S8x256x256.Idx → α) : S8x256x256.Idx → α :=
  select (bitMask w) (turn s d h1 h2 h3 p) p

/-- The block `p` is `p0` with the rows of each lane turned by the lane's number modulo `k`. -/
def Turned (k : Nat) (p0 p : S8x256x256.Idx → α) : Prop :=
  ∀ (b : Fin 8) (r l : Fin 256), p (ix3 b r l) = p0 (ix3 b ⟨(r.val + (256 - l.val % k)) % 256, Nat.mod_lt _ (by decide)⟩ l)

/-- Before the first stage nothing is turned. -/
theorem turned_one (p : S8x256x256.Idx → α) : Turned 1 p p := by
  intro b r l
  congr 2
  apply Fin.ext
  have := r.isLt
  show r.val = (r.val + (256 - l.val % 1)) % 256
  omega

/-- The number modulo `2 ^ (n + 1)` is the number modulo `2 ^ n` and the digit `n`. -/
theorem mod_double (l k : Nat) : l % (2 * k) = l % k + k * (l / k % 2) := by
  rw [Nat.mul_comm 2 k, Nat.mod_mul]

/-- The stage of the bit `n` takes a block turned modulo `2 ^ n` to one turned modulo `2 ^ (n + 1)`. -/
theorem stage_turned (n s d : Nat) (hn : n < 8) (hs : s = 2 ^ n) (hsd : s + d = 256)
    (h1 : S8x256x256.Slices ![0, d, 0] (rows s)) (h2 : S8x256x256.Slices ![0, 0, 0] (rows d))
    (h3 : Shape.Concatenates [rows s, rows d] S8x256x256 1) (p0 p : S8x256x256.Idx → α) (h : Turned s p0 p) :
    Turned (2 * s) p0 (stage (BitVec.ofNat 32 n) s d h1 h2 h3 p) := by
  intro b r l
  have hm := mod_double l.val s
  have hs0 : 0 < s := hs ▸ Nat.two_pow_pos n
  have hk := Nat.mod_lt l.val hs0
  have hle := Nat.mod_le l.val (2 * s)
  have hl := l.isLt
  have hbit := bitMask_apply n hn b r l
  rw [← hs] at hbit
  show Scalar.select (bitMask (BitVec.ofNat 32 n) (ix3 b r l)) (turn s d h1 h2 h3 p (ix3 b r l)) (p (ix3 b r l)) = _
  by_cases hd : l.val / s % 2 = 1
  · rw [hbit.2 hd, turn_apply s d hsd, h]
    show p0 _ = _
    congr 2
    apply Fin.ext
    rw [hd, Nat.mul_one] at hm
    show ((r.val + d) % 256 + (256 - l.val % s)) % 256 = (r.val + (256 - l.val % (2 * s))) % 256
    omega
  · have hz : bitMask (BitVec.ofNat 32 n) (ix3 b r l) = 0#1 := by
      rcases BitVec.eq_zero_or_eq_one (bitMask (BitVec.ofNat 32 n) (ix3 b r l)) with e | e
      · exact e
      · exact absurd (hbit.1 e) hd
    rw [hz, h]
    have hd0 : l.val / s % 2 = 0 := by omega
    rw [hd0, Nat.mul_zero, Nat.add_zero] at hm
    show p0 _ = _
    simp only [hm]

end Cert.Proof
-- ==== Proof.Block.lean ====
/-
  What one grid point of the kernel computes from its two blocks: 8 rows of the lengthened vectors and the 256 × 256
  matrix. Stacked row `d` is the 256 elements from the start of the diagonal `d`; after the eight stages row `r` of lane
  `l` holds stacked row `r - l`; the entries on and above the diagonal are replaced by zero, and the matrix is added.
-/
module

public import proofs.«01_k».proof.Proof.Diag
public import proofs.«01_k».proof.Proof.Stage
public import proofs.«01_k».proof.Proof.Gen.KernelIdeal.Frame

@[expose] public section

noncomputable section

namespace Cert.Proof

open Idealize.ShloMosaic Cert.KernelIdeal Cert.KernelIdeal.Gen

variable {F : FTy → Type} [FloatOps F]

/-- The 256 elements from the start of a diagonal on lie inside the lengthened vectors. -/
theorem row_slices (d : Fin 256) : S8x32896.Slices ![0, off d.val] S8x256 :=
  ⟨rfl, fun a => match a with
    | ⟨0, _⟩ => Nat.le_refl 8
    | ⟨1, _⟩ => off_row d.val d.isLt⟩

/-- The stacked row `d`: zeros for the diagonal 0, which is not stored, else 256 elements from the diagonal's start on. -/
def stackRow (v : FVec F S8x32896 .f32) (d : Fin 256) : FVec F S8x1x256 .f32 :=
  if d.val = 0 then broadcast S8x1x256 (Scalar.ofBits .f32 0x00000000#32)
  else shapeCast S8x1x256 (extractStridedSlice S8x256 ![0, off d.val] v
    (row_slices d)) facts.toFacts₀.shapeCasts_S8x256_S8x1x256

set_option maxRecDepth 100000 in
/-- The shapes of 256 rows stacked are those of a block. -/
theorem stack_shapes (f : Fin 256 → FVec F S8x1x256 .f32) :
    Shape.Concatenates ((List.ofFn fun n : Fin 256 => (⟨S8x1x256, f n⟩ : (s : Shape) × (s.Idx → F .f32))).map (·.1)) S8x256x256 1 := by
  have e : (List.ofFn fun n : Fin 256 => (⟨S8x1x256, f n⟩ : (s : Shape) × (s.Idx → F .f32))).map (·.1)
      = List.replicate 256 S8x1x256 := by
    rw [List.map_ofFn]; exact List.ofFn_const 256 S8x1x256
  rw [e]
  decide +kernel

/-- The 256 rows stacked. -/
def stack (v : FVec F S8x32896 .f32) : FVec F S8x256x256 .f32 :=
  concatenate S8x256x256 1 (List.ofFn fun n : Fin 256 => (⟨S8x1x256, stackRow v n⟩ : (s : Shape) × (s.Idx → F .f32))) (stack_shapes _)

/-- The stack at a place: below the stacked row 0, the element `l` places after the start of the diagonal. -/
theorem stack_apply (v : FVec F S8x32896 .f32) (b : Fin 8) (d l : Fin 256) (hd : 0 < d.val) :
    stack v (ix3 b d l) = v (ix2 b ⟨off d.val + l.val, Nat.lt_of_lt_of_le (Nat.add_lt_add_left l.isLt _) (off_row d.val d.isLt)⟩) := by
  unfold stack
  rw [concatenate_ofFn_unit_apply (s₁ := S8x1x256) 1 (stackRow v) (stack_shapes _) rfl rfl (ix3 b d l) d rfl (ix3 b 0 l)
    (fun a ha => match a with
      | ⟨0, _⟩ => rfl
      | ⟨1, _⟩ => absurd rfl ha
      | ⟨2, _⟩ => rfl)]
  unfold stackRow
  rw [if_neg (Nat.pos_iff_ne_zero.1 hd)]
  pointwise

/-- The eight stages, one for each bit of the lane's number. -/
def shifted {α : Type} (p : S8x256x256.Idx → α) : S8x256x256.Idx → α :=
  stage 7#32 128 128 (by decide) (by decide) (by decide) (stage 6#32 64 192 (by decide) (by decide) (by decide)
  (stage 5#32 32 224 (by decide) (by decide) (by decide) (stage 4#32 16 240 (by decide) (by decide) (by decide)
  (stage 3#32 8 248 (by decide) (by decide) (by decide) (stage 2#32 4 252 (by decide) (by decide) (by decide)
  (stage 1#32 2 254 (by decide) (by decide) (by decide) (stage 0#32 1 255 (by decide) (by decide) (by decide) p)))))))

/-- After the eight stages the rows of lane `l` are turned by `l`. -/
theorem shifted_turned {α : Type} (p : S8x256x256.Idx → α) : Turned 256 p (shifted p) :=
  stage_turned 7 128 128 (by decide) rfl rfl _ _ _ _ _ (stage_turned 6 64 192 (by decide) rfl rfl _ _ _ _ _
  (stage_turned 5 32 224 (by decide) rfl rfl _ _ _ _ _ (stage_turned 4 16 240 (by decide) rfl rfl _ _ _ _ _
  (stage_turned 3 8 248 (by decide) rfl rfl _ _ _ _ _ (stage_turned 2 4 252 (by decide) rfl rfl _ _ _ _ _
  (stage_turned 1 2 254 (by decide) rfl rfl _ _ _ _ _ (stage_turned 0 1 255 (by decide) rfl rfl _ _ _ _ _
  (turned_one p))))))))

/-- At every place of a block: whether the row is below the diagonal. -/
def below : IVec S8x256x256 1 :=
  broadcastTo S8x256x256 (shapeCast S1x256x256 (shapeCast S1x256x256
    (cmpi .sgt (iota .tc S256x256 32 [0] facts.toFacts₀.iota_S256x256_d0_w32) lane)
    facts.toFacts₀.shapeCasts_S256x256_S1x256x256) facts.toFacts₀.shapeCasts_S1x256x256_S1x256x256)
    facts.toFacts₀.broadcasts_S1x256x256_S8x256x256

/-- A number below 256 as a word, read signed. -/
theorem toInt_small (n : Nat) (h : n < 256) : (BitVec.ofNat 32 n).toInt = n := by
  have e : (BitVec.ofNat 32 n).toNat = n := by rw [BitVec.toNat_ofNat]; omega
  rw [BitVec.toInt_eq_toNat_of_lt (by omega), e]

/-- The comparison of two numbers below 256 as words. -/
theorem sgt_lt (r l : Nat) (hr : r < 256) (hl : l < 256) :
    IntOp.cmpi .sgt (BitVec.ofNat 32 r) (BitVec.ofNat 32 l) = if l < r then 1#1 else 0#1 := by
  by_cases h : l < r
  · simp [IntOp.cmpi, BitVec.slt, toInt_small, hr, hl, h]
  · simp [IntOp.cmpi, BitVec.slt, toInt_small, hr, hl, h]

/-- The mask `below` at a place. -/
theorem below_apply (b : Fin 8) (r l : Fin 256) : below (ix3 b r l) = if l.val < r.val then 1#1 else 0#1 := by
  rw [← sgt_lt r.val l.val r.isLt l.isLt]
  pointwise [below, lane]

/-- The payload of the body's one store: the stack turned, masked, and the matrix added. -/
def blockOut (x0 : Vec F S8x32896 .f32) (x1 : Vec F S256x256 .f32) : FVec F S8x256x256 .f32 :=
  addf (select below (shifted (stack (shapeCast S8x32896 x0 facts.toFacts₀.shapeCasts_S8x32896_S8x32896)))
      (broadcast S8x256x256 (Scalar.ofBits .f32 0x00000000#32)))
    (broadcastTo S8x256x256 (shapeCast S1x256x256 x1 facts.toFacts₀.shapeCasts_S256x256_S1x256x256)
      facts.toFacts₀.broadcasts_S1x256x256_S8x256x256)

/-- The payload at a place: below the diagonal the vector's element at the entry's position, elsewhere zero; and the
    matrix's entry added. -/
theorem blockOut_apply (x0 : Vec F S8x32896 .f32) (x1 : Vec F S256x256 .f32) (b : Fin 8) (r l : Fin 256) :
    blockOut x0 x1 (ix3 b r l) = FloatOps.addf (F := F) (φ := .f32)
      (if h : l.val < r.val then x0 (ix2 b ⟨off (r.val - l.val) + l.val, Nat.lt_trans (pos_lt r.val l.val h r.isLt) (by decide)⟩)
        else FloatOps.ofBits .f32 0x00000000#32) (x1 (ix2 r l)) := by
  have e1 : broadcastTo S8x256x256 (shapeCast S1x256x256 x1 facts.toFacts₀.shapeCasts_S256x256_S1x256x256)
      facts.toFacts₀.broadcasts_S1x256x256_S8x256x256 (ix3 b r l) = x1 (ix2 r l) := by pointwise
  have e0 : shapeCast S8x32896 x0 facts.toFacts₀.shapeCasts_S8x32896_S8x32896 = x0 := by
    funext j; pointwise
  show FloatOps.addf (Scalar.select (below (ix3 b r l)) (shifted _ (ix3 b r l)) (FloatOps.ofBits .f32 0x00000000#32))
    (broadcastTo S8x256x256 _ _ (ix3 b r l)) = _
  rw [e1, e0, below_apply, shifted_turned]
  congr 1
  by_cases h : l.val < r.val
  · have hr := r.isLt
    have hm : l.val % 256 = l.val := Nat.mod_eq_of_lt l.isLt
    have e : (r.val + (256 - l.val % 256)) % 256 = r.val - l.val := by omega
    rw [if_pos h, dif_pos h]
    show stack x0 _ = _
    rw [stack_apply _ _ _ _ (by show 0 < (r.val + (256 - l.val % 256)) % 256; omega)]
    congr 2
    apply Fin.ext
    show off ((r.val + (256 - l.val % 256)) % 256) + l.val = off (r.val - l.val) + l.val
    rw [e]
  · rw [if_neg h, dif_neg h]
    rfl

/-- What the body leaves in the output's staging buffer, at a place. -/
theorem out_apply (x0 : Vec F S8x32896 .f32) (x1 : Vec F S256x256 .f32) (b : Fin 8) (r l : Fin 256) :
    out0_2 x0 x1 (ix3 b r l) = FloatOps.addf (F := F) (φ := .f32)
      (if h : l.val < r.val then x0 (ix2 b ⟨off (r.val - l.val) + l.val, Nat.lt_trans (pos_lt r.val l.val h r.isLt) (by decide)⟩)
        else FloatOps.ofBits .f32 0x00000000#32) (x1 (ix2 r l)) := by
  have hz3 : (![0, 0, 0] : Fin 3 → Nat) = fun _ => 0 := by funext a; fin_cases a <;> rfl
  have hz2 : (![0, 0] : Fin 2 → Nat) = fun _ => 0 := by funext a; fin_cases a <;> rfl
  rw [← blockOut_apply]
  have e : out0_2 x0 x1 = View.canon [⟨r0_2, blockOut (View.ld x0 r0_0) (View.ld x1 r0_1)⟩] := by sl_kernel_rfl
  rw [e, View.canon_unit_zero hz3, View.ld_unit_zero hz2, View.ld_unit_zero hz2]

end Cert.Proof
-- ==== Proof.Filled.lean ====
/-
  The matrices that both programs fill from the vectors, entry by entry.
-/
module

public import proofs.«01_k».proof.Proof.Diag
public import Idealize.ShloMosaic.Lib.PointwiseCore

@[expose] public section

noncomputable section

namespace Cert.Proof

open Idealize.ShloMosaic

variable {F : FTy → Type} [FloatOps F]

/-- The filled matrices: below the diagonal the vector's element at the entry's position, elsewhere zero; and the entry of
    the matrix `u` added. -/
def filled (x : (⟨2, ![1024, 32640]⟩ : Shape).Idx → F .f32) (u : (⟨2, ![256, 256]⟩ : Shape).Idx → F .f32) (B : Fin 1024) (r l : Fin 256) :
    F .f32 :=
  FloatOps.addf (F := F) (φ := .f32) (if h : l.val < r.val then x (ix2 B ⟨off (r.val - l.val) + l.val, pos_lt r.val l.val h r.isLt⟩)
    else FloatOps.ofBits .f32 0x00000000#32) (u (ix2 r l))

end Cert.Proof
-- ==== Proof.Array.lean ====
/-
  What the kernel's result array holds: the 128 grid points each write the block of 8 matrices that their 8 vectors fill.
-/
module

public import proofs.«01_k».proof.Proof.Block
public import proofs.«01_k».proof.Proof.Filled
public import proofs.«01_k».proof.Proof.Gen.KernelIdeal.Value
public import Idealize.ShloMosaic.Lib.StableHlo.ReadAt

@[expose] public section

noncomputable section

namespace Cert.Proof

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

/-- The lengthened vectors, at a place that the vectors themselves have. -/
theorem padded_apply (c : Dev nD) (B : Fin 1024) (j : Nat) (hj : j < 32640) :
    V m c main_v0 (ix2 B ⟨j, Nat.lt_trans hj (by decide)⟩) = m ((c : Thread nD τ).loc main_arg0) (ix2 B ⟨j, hj⟩) := by
  unfold V
  after_reads_at
  exact dif_pos hj

/-- Where the blocks of a grid point lie: the point is the block's number along the first axis, except that the matrix is
    one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- There are 128 grid points. -/
theorem point_lt (t : Fin cfg0.N) : t.val < 128 := Nat.lt_of_lt_of_eq t.isLt N_0

/-- The row of the arrays that row `b` of a point's blocks is. -/
def batch (t : Fin cfg0.N) (b : Fin 8) : Fin 1024 := ⟨t.val * 8 + b.val, by have := point_lt t; omega⟩

/-- A place of a point's block of lengthened vectors, in the array. -/
theorem iblk0_apply (c : Dev nD) (t : Fin cfg0.N) (b : Fin 8) (j : Nat) (hj : j < 32640) :
    iblk m c 0 t (ix2 b ⟨j, Nat.lt_trans hj (by decide)⟩) = m ((c : Thread nD τ).loc main_arg0) (ix2 (batch t b) ⟨j, hj⟩) := by
  obtain ⟨e0, e1, _⟩ := idx_facts t
  rw [← padded_apply m c (batch t b) j hj]
  show V m c main_v0 (((cfg0.win 0).blk t).view.emb _) = V m c main_v0 _
  congr 1
  funext a; apply Fin.ext
  match a with
  | ⟨0, _⟩ => show win0_0.index t (0 : Fin 2) * 8 + 1 * b.val = t.val * 8 + b.val; omega
  | ⟨1, _⟩ => show win0_0.index t (1 : Fin 2) * 32896 + 1 * j = j; omega

/-- A place of the matrix's block, in the matrix. -/
theorem iblk1_apply (c : Dev nD) (t : Fin cfg0.N) (r l : Fin 256) :
    iblk m c 1 t (ix2 r l) = m ((c : Thread nD τ).loc main_arg1) (ix2 r l) := by
  obtain ⟨_, _, e0, e1, _⟩ := idx_facts t
  rw [← V_main_arg1 m c]
  show V m c main_arg1 (((cfg0.win 1).blk t).view.emb _) = V m c main_arg1 _
  congr 1
  funext a; apply Fin.ext
  match a with
  | ⟨0, _⟩ => show win0_1.index t (0 : Fin 2) * 256 + 1 * r.val = r.val; omega
  | ⟨1, _⟩ => show win0_1.index t (1 : Fin 2) * 256 + 1 * l.val = l.val; omega

/-- A place of a point's block of the result, in the array. -/
theorem emb2 (t : Fin cfg0.N) (b : Fin 8) (r l : Fin 256) :
    ((cfg0.win 2).blk t).view.emb (ix3 b r l : S8x256x256.Idx) = (ix3 (batch t b) r l : S1024x256x256.Idx) := by
  obtain ⟨_, _, _, _, e0, e1, e2⟩ := idx_facts t
  funext a; apply Fin.ext
  match a with
  | ⟨0, _⟩ => show win0_2.index t (0 : Fin 3) * 8 + 1 * b.val = t.val * 8 + b.val; omega
  | ⟨1, _⟩ => show win0_2.index t (1 : Fin 3) * 256 + 1 * r.val = r.val; omega
  | ⟨2, _⟩ => show win0_2.index t (2 : Fin 3) * 256 + 1 * l.val = l.val; omega

/-- The filled matrices of the launch's arguments, as an array. -/
abbrev filledBuf (c : Dev nD) : Buf (Elt F) ((c : Thread nD τ).loc main_v1) :=
  fun i : S1024x256x256.Idx => filled (F := F) (m ((c : Thread nD τ).loc main_arg0)) (m ((c : Thread nD τ).loc main_arg1)) (i 0) (i 1) (i 2)

/-- What a grid point writes back is its block of the filled matrices. -/
theorem flushed_eq (c : Dev nD) (t : Fin cfg0.N) :
    (dats m 0 c).flushed 2 t = ((cfg0.win 2).blk t).view.read (Elt F) (filledBuf m c) := by
  rw [Cert.KernelIdeal.Value.flushed2]
  funext (y : S8x256x256.Idx)
  obtain ⟨b, r, l, rfl⟩ : ∃ (b : Fin 8) (r l : Fin 256), y = ix3 b r l :=
    ⟨y 0, y 1, y 2, by funext a; fin_cases a <;> rfl⟩
  show out0_2 (iblk m c 0 t) (iblk m c 1 t) (ix3 b r l) = filledBuf m c (((cfg0.win 2).blk t).view.emb (ix3 b r l : S8x256x256.Idx))
  rw [emb2, out_apply, iblk1_apply]
  show _ = filled (F := F) _ _ (batch t b) r l
  unfold filled
  congr 1
  by_cases h : l.val < r.val
  · rw [dif_pos h, dif_pos h]
    exact iblk0_apply m c t b _ (pos_lt _ _ h r.isLt)
  · rw [dif_neg h, dif_neg h]

/-- Every place of the result array is in the block of a grid point. -/
theorem cover (i : S1024x256x256.Idx) :
    ∃ t : Fin cfg0.N, (cfg0.win 2).flush t = true ∧ i ∈ ((cfg0.win 2).blk t).view.set := by
  have h0 : (i 0 : Nat) < 1024 := (i 0).isLt
  have hN : cfg0.N = 128 := N_0
  obtain ⟨t, ht⟩ : ∃ t : Fin cfg0.N, t.val = (i 0).val / 8 := ⟨⟨(i 0).val / 8, by omega⟩, rfl⟩
  refine ⟨t, flush0_2 t, ?_⟩
  have e : i = (ix3 (batch t ⟨(i 0).val % 8, by omega⟩) (i 1) (i 2) : S1024x256x256.Idx) := by
    funext a; apply Fin.ext
    match a with
    | ⟨0, _⟩ => show (i 0).val = t.val * 8 + (i 0).val % 8; omega
    | ⟨1, _⟩ => rfl
    | ⟨2, _⟩ => rfl
  have h := ((cfg0.win 2).blk t).view.emb_mem_set (ix3 (⟨(i 0).val % 8, by omega⟩ : Fin 8) (i 1 : Fin 256) (i 2 : Fin 256) : S8x256x256.Idx)
  erw [emb2] at h
  exact e.symm ▸ h

/-- The result array at the end of the run holds the filled matrices. -/
theorem final_eq (c : Dev nD) : (dats m 0 c).arrAt 2 cfg0.N = filledBuf m c :=
  (dats m 0 c).arrAt_eq_of_cover 2 (filledBuf m c) (fun t _ => flushed_eq m c t) cover

end Cert.Proof
-- ==== Proof.Tables.lean ====
/-
  The two tables of the reference program: entry `t` of the first is the row, and of the second the column, of the
  triangle's entry stored at position `t`. The tables are printed as matches on the base-128 digits of the index; they
  are compared, digit by digit, with the same matches over a formula.
-/
module

public import proofs.«01_k».proof.ReferenceIdeal
public import proofs.«01_k».proof.Proof.Diag
public import Idealize.ShloMosaic.Lib.Tactic

@[expose] public section

noncomputable section

namespace Cert.Proof

/-- One binary digit `j` of the diagonal: added to `d` if the diagonal `d + j` starts at or before the position `t`. -/
def diagStep (t d j : Nat) : Nat := d + j * (1 - (off (d + j) - t))

/-- The diagonal on which the position `t` lies, found by its eight binary digits. -/
def diag (t : Nat) : Nat :=
  diagStep t (diagStep t (diagStep t (diagStep t (diagStep t (diagStep t (diagStep t (diagStep t 0 128) 64) 32) 16) 8) 4) 2) 1

/-- The column of the entry at position `t`. -/
def colOf (t : Nat) : Nat := t - off (diag t)

/-- The row of the entry at position `t`. -/
def rowOf (t : Nat) : Nat := colOf t + diag t

/-- What the search keeps: the position lies on one of the `2 * j` diagonals from `d` on. -/
def Within (t d j : Nat) : Prop := d + j ≤ 256 ∧ off d ≤ t ∧ t < off (d + j)

/-- One step of the search halves the diagonals left. -/
theorem within_step (t d j : Nat) (h : Within t d (2 * j)) : Within t (diagStep t d j) j := by
  obtain ⟨h0, h1, h2⟩ := h
  by_cases hle : off (d + j) ≤ t
  · have e : diagStep t d j = d + j := by
      unfold diagStep; rw [Nat.sub_eq_zero_of_le hle, Nat.sub_zero, Nat.mul_one]
    have e2 : d + j + j = d + 2 * j := by omega
    exact ⟨by omega, by rw [e]; exact hle, by rw [e, e2]; exact h2⟩
  · have e : diagStep t d j = d := by
      unfold diagStep; rw [Nat.sub_eq_zero_of_le (show 1 ≤ off (d + j) - t by omega), Nat.mul_zero, Nat.add_zero]
    exact ⟨by omega, by rw [e]; exact h1, by rw [e]; omega⟩

/-- The search ends at the diagonal on which the position lies. -/
theorem diag_within (t : Nat) (h : t < 32640) : Within t (diag t) 1 :=
  within_step _ _ _ (within_step _ _ _ (within_step _ _ _ (within_step _ _ _ (within_step _ _ _ (within_step _ _ _
    (within_step _ _ _ (within_step _ _ _ ⟨by decide, Nat.zero_le _, h⟩)))))))

/-- The search finds the diagonal of every stored entry. -/
theorem diag_off (d c : Nat) (hd : d < 256) (hc : c < 256 - d) (h0 : 0 < d) : diag (off d + c) = d := by
  have hs := off_succ d hd h0
  have he := off_end d hd h0
  obtain ⟨h1, h2, h3⟩ := diag_within (off d + c) (by omega)
  exact diag_unique _ _ _ (by omega) hd h2 h3 (by omega) (by omega)

/-- A match on the last base-128 digit of `x` whose arm `k` is `v k`. -/
def digits (v : Nat → BitVec 32) (x : Nat) : BitVec 32 := match x % 128 with
  | 0 => v 0 | 1 => v 1 | 2 => v 2 | 3 => v 3 | 4 => v 4 | 5 => v 5 | 6 => v 6 | 7 => v 7 | 8 => v 8 | 9 => v 9
  | 10 => v 10 | 11 => v 11 | 12 => v 12 | 13 => v 13 | 14 => v 14 | 15 => v 15 | 16 => v 16 | 17 => v 17
  | 18 => v 18 | 19 => v 19 | 20 => v 20 | 21 => v 21 | 22 => v 22 | 23 => v 23 | 24 => v 24 | 25 => v 25
  | 26 => v 26 | 27 => v 27 | 28 => v 28 | 29 => v 29 | 30 => v 30 | 31 => v 31 | 32 => v 32 | 33 => v 33
  | 34 => v 34 | 35 => v 35 | 36 => v 36 | 37 => v 37 | 38 => v 38 | 39 => v 39 | 40 => v 40 | 41 => v 41
  | 42 => v 42 | 43 => v 43 | 44 => v 44 | 45 => v 45 | 46 => v 46 | 47 => v 47 | 48 => v 48 | 49 => v 49
  | 50 => v 50 | 51 => v 51 | 52 => v 52 | 53 => v 53 | 54 => v 54 | 55 => v 55 | 56 => v 56 | 57 => v 57
  | 58 => v 58 | 59 => v 59 | 60 => v 60 | 61 => v 61 | 62 => v 62 | 63 => v 63 | 64 => v 64 | 65 => v 65
  | 66 => v 66 | 67 => v 67 | 68 => v 68 | 69 => v 69 | 70 => v 70 | 71 => v 71 | 72 => v 72 | 73 => v 73
  | 74 => v 74 | 75 => v 75 | 76 => v 76 | 77 => v 77 | 78 => v 78 | 79 => v 79 | 80 => v 80 | 81 => v 81
  | 82 => v 82 | 83 => v 83 | 84 => v 84 | 85 => v 85 | 86 => v 86 | 87 => v 87 | 88 => v 88 | 89 => v 89
  | 90 => v 90 | 91 => v 91 | 92 => v 92 | 93 => v 93 | 94 => v 94 | 95 => v 95 | 96 => v 96 | 97 => v 97
  | 98 => v 98 | 99 => v 99 | 100 => v 100 | 101 => v 101 | 102 => v 102 | 103 => v 103 | 104 => v 104 | 105 => v 105
  | 106 => v 106 | 107 => v 107 | 108 => v 108 | 109 => v 109 | 110 => v 110 | 111 => v 111 | 112 => v 112
  | 113 => v 113 | 114 => v 114 | 115 => v 115 | 116 => v 116 | 117 => v 117 | 118 => v 118 | 119 => v 119
  | 120 => v 120 | 121 => v 121 | 122 => v 122 | 123 => v 123 | 124 => v 124 | 125 => v 125 | 126 => v 126
  | 127 => v 127 | _ => 0#32

/-- The same with one arm less. -/
def digits' (v : Nat → BitVec 32) (x : Nat) : BitVec 32 := match x % 128 with
  | 0 => v 0 | 1 => v 1 | 2 => v 2 | 3 => v 3 | 4 => v 4 | 5 => v 5 | 6 => v 6 | 7 => v 7 | 8 => v 8 | 9 => v 9
  | 10 => v 10 | 11 => v 11 | 12 => v 12 | 13 => v 13 | 14 => v 14 | 15 => v 15 | 16 => v 16 | 17 => v 17
  | 18 => v 18 | 19 => v 19 | 20 => v 20 | 21 => v 21 | 22 => v 22 | 23 => v 23 | 24 => v 24 | 25 => v 25
  | 26 => v 26 | 27 => v 27 | 28 => v 28 | 29 => v 29 | 30 => v 30 | 31 => v 31 | 32 => v 32 | 33 => v 33
  | 34 => v 34 | 35 => v 35 | 36 => v 36 | 37 => v 37 | 38 => v 38 | 39 => v 39 | 40 => v 40 | 41 => v 41
  | 42 => v 42 | 43 => v 43 | 44 => v 44 | 45 => v 45 | 46 => v 46 | 47 => v 47 | 48 => v 48 | 49 => v 49
  | 50 => v 50 | 51 => v 51 | 52 => v 52 | 53 => v 53 | 54 => v 54 | 55 => v 55 | 56 => v 56 | 57 => v 57
  | 58 => v 58 | 59 => v 59 | 60 => v 60 | 61 => v 61 | 62 => v 62 | 63 => v 63 | 64 => v 64 | 65 => v 65
  | 66 => v 66 | 67 => v 67 | 68 => v 68 | 69 => v 69 | 70 => v 70 | 71 => v 71 | 72 => v 72 | 73 => v 73
  | 74 => v 74 | 75 => v 75 | 76 => v 76 | 77 => v 77 | 78 => v 78 | 79 => v 79 | 80 => v 80 | 81 => v 81
  | 82 => v 82 | 83 => v 83 | 84 => v 84 | 85 => v 85 | 86 => v 86 | 87 => v 87 | 88 => v 88 | 89 => v 89
  | 90 => v 90 | 91 => v 91 | 92 => v 92 | 93 => v 93 | 94 => v 94 | 95 => v 95 | 96 => v 96 | 97 => v 97
  | 98 => v 98 | 99 => v 99 | 100 => v 100 | 101 => v 101 | 102 => v 102 | 103 => v 103 | 104 => v 104 | 105 => v 105
  | 106 => v 106 | 107 => v 107 | 108 => v 108 | 109 => v 109 | 110 => v 110 | 111 => v 111 | 112 => v 112
  | 113 => v 113 | 114 => v 114 | 115 => v 115 | 116 => v 116 | 117 => v 117 | 118 => v 118 | 119 => v 119
  | 120 => v 120 | 121 => v 121 | 122 => v 122 | 123 => v 123 | 124 => v 124 | 125 => v 125 | 126 => v 126 | _ => 0#32

/-- The match gives `v` at the digit. -/
theorem digits_eq (v : Nat → BitVec 32) (x : Nat) : digits v x = v (x % 128) := by
  have h : x % 128 < 128 := Nat.mod_lt _ (by decide)
  unfold digits
  split <;> first | (rename_i e; rw [e]; done) | (simp only [imp_false] at *; omega)

/-- The match with one arm less gives `v` at a digit that has an arm. -/
theorem digits'_eq (v : Nat → BitVec 32) (x : Nat) (h : x % 128 < 127) : digits' v x = v (x % 128) := by
  unfold digits'
  split <;> first | (rename_i e; rw [e]; done) | (simp only [imp_false] at *; omega)

/-- The table of 32640 entries `f 0`, `f 1`, …, as a match on the digits of the index. -/
def table (f : Nat → BitVec 32) (i : Nat) : BitVec 32 := match i / 16384 with
  | 0 => digits (fun k => digits (fun b => f (128 * k + b)) i) (i / 128)
  | 1 => digits' (fun k => digits (fun b => f (16384 + 128 * k + b)) i) (i / 128)
  | _ => 0#32

/-- Such a table holds `f i` at `i`. -/
theorem table_eq (f : Nat → BitVec 32) (i : Nat) (h : i < 32640) : table f i = f i := by
  unfold table
  split
  · rw [digits_eq, digits_eq]; congr 1; omega
  · rw [digits'_eq _ _ (by omega), digits_eq]; congr 1; omega
  · simp only [imp_false] at *; omega

/-- The first table is the table of the rows. -/
theorem lit0t_eq (i : Nat) : Cert.ReferenceIdeal.lit0t i = table (fun t => BitVec.ofNat 32 (rowOf t)) i := by sl_kernel_rfl

/-- The second table is the table of the columns. -/
theorem lit1t_eq (i : Nat) : Cert.ReferenceIdeal.lit1t i = table (fun t => BitVec.ofNat 32 (colOf t)) i := by sl_kernel_rfl

/-- The tables at the position of an entry of the triangle: its row and its column. -/
theorem tables_entry (r c : Nat) (h : c < r) (hr : r < 256) :
    Cert.ReferenceIdeal.lit0t (off (r - c) + c) = BitVec.ofNat 32 r ∧ Cert.ReferenceIdeal.lit1t (off (r - c) + c) = BitVec.ofNat 32 c := by
  have hp := pos_lt r c h hr
  have hd := diag_off (r - c) c (by omega) (by omega) (by omega)
  have hc : colOf (off (r - c) + c) = c := by unfold colOf; rw [hd, Nat.add_sub_cancel_left]
  have hr : rowOf (off (r - c) + c) = r := by unfold rowOf; rw [hc, hd]; omega
  rw [lit0t_eq, lit1t_eq, table_eq _ _ hp, table_eq _ _ hp, hc, hr]
  exact ⟨rfl, rfl⟩

end Cert.Proof
-- ==== Proof.Reference.lean ====
/-
  What the reference computes: each element of a vector is set into a matrix of zeros at the row and the column that the
  two tables give for it, and the matrix `u` is added.
-/
module

public import proofs.«01_k».proof.Proof.Tables
public import proofs.«01_k».proof.Proof.Filled
public import proofs.«01_k».proof.Proof.Gen.ReferenceIdeal.Run
public import Idealize.ShloMosaic.Lib.PointwiseCore
public import Idealize.ShloMosaic.Lib.Routing.OpsSet

@[expose] public section

noncomputable section

namespace Cert.Proof.Ref

open Idealize.ShloMosaic Cert.ReferenceIdeal Cert.ReferenceIdeal.Gen

/-- A table's words, a negative one counted from 256, as a column. -/
def column (tab : IVec S32640 32) : IVec S32640x1 32 :=
  broadcastInDim S32640x1 ![0] facts.toFacts₀.bcast_S32640_S32640x1_0
    (select (cmpi .slt tab (broadcastInDim S32640 ![] facts.toFacts₀.bcast_S_S32640 (constantI S_ 32 0#32)))
      (addi tab (broadcastInDim S32640 ![] facts.toFacts₀.bcast_S_S32640 (constantI S_ 32 256#32))) tab)

/-- No word of the tables is negative. -/
theorem column_apply (tab : IVec S32640 32) (t : Fin 32640) (h : (tab (ix1 t)).toNat < 2 ^ 31) : column tab (ix2 t 0) = tab (ix1 t) := by
  have e : column tab (ix2 t 0)
      = Scalar.select (IntOp.cmpi .slt (tab (ix1 t)) 0#32) (IntOp.addi (tab (ix1 t)) 256#32) (tab (ix1 t)) := by
    pointwise [column]
  rw [e, Routing.wrap_of_lt _ _ h]

/-- The rows and the columns of the entries, side by side. -/
def places : IVec S32640x2 32 :=
  concatenate S32640x2 1 [⟨S32640x1, column fun i => lit0 (S32640.rowMajor i)⟩, ⟨S32640x1, column fun i => lit1 (S32640.rowMajor i)⟩]
    facts.toFacts₀.concatenates_S32640x1_S32640x1_S32640x2_d1

/-- Two columns side by side: the first is column 0, the second column 1. -/
theorem beside (a b : IVec S32640x1 32) (t : Fin 32640) :
    concatenate S32640x2 1 [⟨S32640x1, a⟩, ⟨S32640x1, b⟩] facts.toFacts₀.concatenates_S32640x1_S32640x1_S32640x2_d1 (ix2 t 0) = a (ix2 t 0) ∧
    concatenate S32640x2 1 [⟨S32640x1, a⟩, ⟨S32640x1, b⟩] facts.toFacts₀.concatenates_S32640x1_S32640x1_S32640x2_d1 (ix2 t 1) = b (ix2 t 0) := by
  constructor <;> pointwise

/-- The position of an index of a table. -/
theorem rowMajor_ix1 (t : Fin 32640) : (S32640.rowMajor (ix1 t)).val = t.val := rowMajor_val1 _

/-- The word for the row at the position of an entry is its row, and the word for the column its column. -/
theorem places_apply (t : Fin 32640) (r c : Nat) (h : c < r) (hr : r < 256) (ht : t.val = off (r - c) + c) :
    (places (ix2 t 0)).toInt = r ∧ (places (ix2 t 1)).toInt = c := by
  obtain ⟨e0, e1⟩ := tables_entry r c h hr
  have small : ∀ n < 256, (BitVec.ofNat 32 n).toNat = n := fun n hn => by rw [BitVec.toNat_ofNat]; omega
  have f0 : lit0 (S32640.rowMajor (ix1 t)) = BitVec.ofNat 32 r := by
    show lit0t (S32640.rowMajor (ix1 t)).val = _
    rw [rowMajor_ix1, ht, e0]
  have f1 : lit1 (S32640.rowMajor (ix1 t)) = BitVec.ofNat 32 c := by
    show lit1t (S32640.rowMajor (ix1 t)).val = _
    rw [rowMajor_ix1, ht, e1]
  have s0 := small r hr
  have s1 := small c (by omega)
  have p0 : places (ix2 t 0) = BitVec.ofNat 32 r :=
    (beside _ _ t).1.trans ((column_apply _ t (by rw [f0, s0]; omega)).trans f0)
  have p1 : places (ix2 t 1) = BitVec.ofNat 32 c :=
    (beside _ _ t).2.trans ((column_apply _ t (by rw [f1, s1]; omega)).trans f1)
  rw [p0, p1]
  exact ⟨by rw [BitVec.toInt_eq_toNat_of_lt (by omega), s0], by rw [BitVec.toInt_eq_toNat_of_lt (by omega), s1]⟩

/-- How the elements are set: the vector's number names the matrix, the two words the row and the column. -/
abbrev dims : ScatterDims S1024x256x256 S32640x2 S1024x32640 :=
  scatter_S1024x256x256_S32640x2_S1024x32640_0_12_12_1

/-- The element at position `t` of vector `B` is set at the place that its two words name in matrix `B`. -/
theorem lands (idx : IVec S32640x2 32) (B : Fin 1024) (t : Fin 32640) (B' : Fin 1024) (r l : Fin 256) :
    dims.resultIdx? (ix2 B t : S1024x32640.Idx) idx = some (ix3 B' r l : S1024x256x256.Idx) ↔
      B = B' ∧ (idx (ix2 t 0)).toInt = r.val ∧ (idx (ix2 t 1)).toInt = l.val := by
  have w0 : dims.window (ix2 B t : S1024x32640.Idx) 0 = B.val := rfl
  have w1 : dims.window (ix2 B t : S1024x32640.Idx) 1 = 0 := rfl
  have w2 : dims.window (ix2 B t : S1024x32640.Idx) 2 = 0 := rfl
  have s0 : dims.start (ix2 B t : S1024x32640.Idx) idx 0 = 0 := rfl
  have s1 : dims.start (ix2 B t : S1024x32640.Idx) idx 1 = (idx (ix2 t 0)).toInt :=
    congrArg (fun j => (idx j).toInt) (show dims.siIdx (ix2 B t : S1024x32640.Idx) ⟨0, by decide⟩ = ix2 t 0 by
      funext a; fin_cases a <;> rfl)
  have s2 : dims.start (ix2 B t : S1024x32640.Idx) idx 2 = (idx (ix2 t 1)).toInt :=
    congrArg (fun j => (idx j).toInt) (show dims.siIdx (ix2 B t : S1024x32640.Idx) ⟨1, by decide⟩ = ix2 t 1 by
      funext a; fin_cases a <;> rfl)
  rw [Routing.resultIdx?_eq_some]
  constructor
  · intro h
    have h0 := h 0
    have h1 := h 1
    have h2 := h 2
    rw [w0, s0] at h0
    rw [w1, s1] at h1
    rw [w2, s2] at h2
    have h0' : (0 : Int) + B.val = B'.val := h0
    have h1' : (idx (ix2 t 0)).toInt + ((0 : Nat) : Int) = r.val := h1
    have h2' : (idx (ix2 t 1)).toInt + ((0 : Nat) : Int) = l.val := h2
    exact ⟨Fin.ext (by omega), by omega, by omega⟩
  · rintro ⟨rfl, h1, h2⟩ a
    match a with
    | ⟨0, _⟩ =>
      show dims.start (ix2 B t : S1024x32640.Idx) idx 0 + (dims.window (ix2 B t : S1024x32640.Idx) 0 : Int) = (B.val : Int)
      rw [w0, s0]; omega
    | ⟨1, _⟩ =>
      show dims.start (ix2 B t : S1024x32640.Idx) idx 1 + (dims.window (ix2 B t : S1024x32640.Idx) 1 : Int) = (r.val : Int)
      rw [w1, s1]; omega
    | ⟨2, _⟩ =>
      show dims.start (ix2 B t : S1024x32640.Idx) idx 2 + (dims.window (ix2 B t : S1024x32640.Idx) 2 : Int) = (l.val : Int)
      rw [w2, s2]; omega

variable {F : FTy → Type} [FloatOps F]

/-- The matrices with the elements set: below the diagonal the element at the entry's position, elsewhere the zero that
    was there. -/
theorem set_apply (z : S1024x256x256.Idx → F .f32) (x : S1024x32640.Idx → F .f32) (B : Fin 1024) (r l : Fin 256) :
    Host.scatter dims (fun _ b => b) z places x (ix3 B r l)
      = if h : l.val < r.val then x (ix2 B ⟨off (r.val - l.val) + l.val, pos_lt r.val l.val h r.isLt⟩) else z (ix3 B r l) := by
  -- an element set at the place is the one at the entry's position
  have key : ∀ (B' : Fin 1024) (t : Fin 32640), dims.resultIdx? (ix2 B' t : S1024x32640.Idx) places = some (ix3 B r l : S1024x256x256.Idx) →
      B' = B ∧ l.val < r.val ∧ t.val = off (r.val - l.val) + l.val := fun B' t hk => by
    obtain ⟨eB, e1, e2⟩ := (lands _ _ _ _ _ _).1 hk
    obtain ⟨r', c', h1, h2, h3⟩ := exists_entry t.val t.isLt
    obtain ⟨p0, p1⟩ := places_apply t r' c' h1 h2 h3
    have er : r' = r.val := by omega
    have ec : c' = l.val := by omega
    subst er ec
    exact ⟨eB, h1, h3⟩
  have split2 : ∀ k : S1024x32640.Idx, ∃ (B' : Fin 1024) (t : Fin 32640), k = ix2 B' t := fun k =>
    ⟨k 0, k 1, by funext a; fin_cases a <;> rfl⟩
  by_cases h : l.val < r.val
  · rw [dif_pos h]
    refine Routing.scatter_set_hit dims z places x _ _ (fun k hk => ?_)
      (ix2 B ⟨off (r.val - l.val) + l.val, pos_lt r.val l.val h r.isLt⟩) ?_
    · obtain ⟨B', t, rfl⟩ := split2 k
      obtain ⟨rfl, _, ht⟩ := key B' t hk
      congr 2
      exact Fin.ext ht
    · rw [lands]
      exact ⟨rfl, places_apply _ r.val l.val h r.isLt rfl⟩
  · rw [dif_neg h]
    refine Routing.scatter_set_miss dims z places x _ fun k hk => ?_
    obtain ⟨B', t, rfl⟩ := split2 k
    exact h (key B' t hk).2.1

/-- The reference's result, as its operations compose it. -/
def out (x : FVec F S1024x32640 .f32) (u : FVec F S256x256 .f32) : FVec F S1024x256x256 .f32 :=
  addf (Host.scatter dims (fun _ b => b)
      (broadcastInDim S1024x256x256 ![] facts.toFacts₀.bcast_S_S1024x256x256 (constant S_ .f32 0x00000000#32)) places x)
    (broadcastInDim S1024x256x256 ![0, 1, 2] facts.toFacts₀.bcast_S1x256x256_S1024x256x256_0_1_2
      (broadcastInDim S1x256x256 ![1, 2] facts.toFacts₀.bcast_S256x256_S1x256x256_1_2 u))

/-- The reference's result is the filled matrices. -/
theorem out_apply (x : FVec F S1024x32640 .f32) (u : FVec F S256x256 .f32) (B : Fin 1024) (r l : Fin 256) :
    out x u (ix3 B r l) = filled x u B r l := by
  have e1 : broadcastInDim S1024x256x256 ![0, 1, 2] facts.toFacts₀.bcast_S1x256x256_S1024x256x256_0_1_2
      (broadcastInDim S1x256x256 ![1, 2] facts.toFacts₀.bcast_S256x256_S1x256x256_1_2 u) (ix3 B r l) = u (ix2 r l) := by
    pointwise
  show FloatOps.addf (Host.scatter dims (fun _ b => b) _ places x (ix3 B r l)) (broadcastInDim S1024x256x256 _ _ _ (ix3 B r l)) = _
  rw [e1, set_apply]
  rfl

open Idealize.SL.Sem in
/-- The reference runs and ends with `out` of its arguments, which are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold out places column
  exact Cert.ReferenceIdeal.Value.run m ρ

end Cert.Proof.Ref
-- ==== Proof.lean ====
/-
  The certificate's claims: the kernel, its idealization and the idealized reference run, end with their arguments
  unchanged and with every semaphore at zero; and at exact arithmetic the kernel's result is the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.Reference
public import Idealize.ShloMosaic.Lib.Quiescent

@[expose] public section

noncomputable section

namespace Cert.Proof

open Idealize.ShloMosaic Idealize.SL.Sem

/-- The kernel runs, its arguments end unchanged and every semaphore is back at zero. -/
theorem frame_kernel : Cert.quiescent_Kernel := fun m g _ => Cert.Kernel.Gen.frame m g

/-- The same of the kernel at exact arithmetic. -/
theorem frame_kernelIdeal : Cert.quiescent_KernelIdeal := fun m g _ => Cert.KernelIdeal.Gen.frame m g

/-- The same of the reference at exact arithmetic, which has no semaphore. -/
theorem frame_referenceIdeal : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The kernel rewrote no operation to be read at exact arithmetic. -/
theorem preserves : Cert.preserves_Kernel_KernelIdeal := trivial

/-- From equal arguments the reference's result is the filled matrices that the kernel's array holds. -/
theorem reference_eq {m : (ℓ : Loc Cert.KernelIdeal.nD Cert.KernelIdeal.τ Cert.KernelIdeal.sig) → Buf (Elt Ideal) ℓ}
    {c : Dev Cert.KernelIdeal.nD} {x : FVec Ideal Cert.ReferenceIdeal.S1024x32640 .f32} {u : FVec Ideal Cert.ReferenceIdeal.S256x256 .f32}
    (hx : x = m ((c.tc : Thread Cert.KernelIdeal.nD Cert.KernelIdeal.τ).loc Cert.KernelIdeal.main_arg0))
    (hu : u = m ((c.tc : Thread Cert.KernelIdeal.nD Cert.KernelIdeal.τ).loc Cert.KernelIdeal.main_arg1)) :
    Ref.out x u = filledBuf m c := by
  subst hx hu
  funext i
  obtain ⟨B, r, l, rfl⟩ : ∃ (B : Fin 1024) (r l : Fin 256), i = ix3 B r l :=
    ⟨i 0, i 1, i 2, by funext a; fin_cases a <;> rfl⟩
  exact Ref.out_apply _ _ B r l

/-- From equal arguments the kernel and the reference both end with the filled matrices, at exact arithmetic. -/
theorem algebraic : Cert.algebraic_KernelIdeal_ReferenceIdeal := fun m g m' g' _ same =>
  ⟨fun c => filledBuf m c,
    (θ_run Cert.KernelIdeal.defs _ _).mono (fun r h c => ⟨(h c).1.trans (final_eq m c), (h c).2⟩)
      (Cert.KernelIdeal.Value.run_blocks m g),
    (θ_run Cert.ReferenceIdeal.defs _ _).mono (fun r h c => ⟨(h c).1.trans (reference_eq (same c).1 (same c).2), (h c).2⟩)
      (Ref.run m' g')⟩

/-- All the claims. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
